-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_voxels [hPre_first_voxels : Cert.Pre_first_voxels.Facts] (m : (ℓ : Loc Cert.KernelIdeal.nD Cert.KernelIdeal.τ Cert.KernelIdeal.sig) → Buf (Elt Ideal) ℓ) : Prop :=
  ∀ c : Dev Cert.KernelIdeal.nD,
    (Cert.Pre_first_voxels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_voxels [hPre_first_voxels : Cert.Pre_first_voxels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_voxels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_first_voxels [hKernelIdeal : Cert.KernelIdeal.Facts] [hPre_first_voxels : Cert.Pre_first_voxels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_voxels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_first_voxels [hReferenceIdeal : Cert.ReferenceIdeal.Facts] [hPre_first_voxels : Cert.Pre_first_voxels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_voxels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "mask" .f32 0xF149F2CA#32 ⊥
  ∧ IdealRules.named_const.Statement Cert.KernelIdeal.κ "mean_coeff" .f32 0xBB5A740E#32 ((-1 / 300 : ℝ) : EReal)

def algebraic_KernelIdeal_ReferenceIdeal_pre_first_voxels [hKernelIdeal : Cert.KernelIdeal.Facts] [hReferenceIdeal : Cert.ReferenceIdeal.Facts] [hPre_first_voxels : Cert.Pre_first_voxels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_voxels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_first_voxels : Cert.Pre_first_voxels.Facts),
    quiescent_Kernel (hKernel := hKernel)
    ∧ quiescent_KernelIdeal (hKernelIdeal := hKernelIdeal)
    ∧ quiescent_KernelIdeal_pre_first_voxels (hKernelIdeal := hKernelIdeal) (hPre_first_voxels := hPre_first_voxels)
    ∧ quiescent_ReferenceIdeal (hReferenceIdeal := hReferenceIdeal)
    ∧ quiescent_ReferenceIdeal_pre_first_voxels (hReferenceIdeal := hReferenceIdeal) (hPre_first_voxels := hPre_first_voxels)
    ∧ preserves_Kernel_KernelIdeal
    ∧ algebraic_KernelIdeal_ReferenceIdeal_pre_first_voxels (hKernelIdeal := hKernelIdeal) (hReferenceIdeal := hReferenceIdeal) (hPre_first_voxels := hPre_first_voxels)
-- ==== Pre_first_voxels.lean ====
abbrev S2x128x48x48x48 : Shape := ⟨5, ![2, 128, 48, 48, 48]⟩
abbrev S2x1x48x48x48 : Shape := ⟨5, ![2, 1, 48, 48, 48]⟩
abbrev S2x110592 : Shape := ⟨2, ![2, 110592]⟩
abbrev S2x150 : Shape := ⟨2, ![2, 150]⟩
abbrev S150 : Shape := ⟨1, ![150]⟩
abbrev S_ : Shape := ⟨0, ![]⟩

class Facts : Prop where
  shapeCasts_S2x1x48x48x48_S2x110592 : S2x1x48x48x48.ShapeCasts S2x110592
  slices_S2x110592_S2x150_0_0 : S2x110592.Slices ![0, 0] S2x150
  bcast_S_S150 : S_.BroadcastsInDim S150 (![] : Fin 0 → Fin S150.rank)
  bcast_S150_S2x150_1 : S150.BroadcastsInDim S2x150 (![1] : Fin 1 → Fin S2x150.rank)
  reducesTo_S2x150_S_d0_1 : S2x150.ReducesTo [0, 1] S_
  h_S_ : 0 < S_.numel

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S150 32) (arg1 : IVec S_ 32) : IVec S150 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S150 32 := broadcastInDim S150 ![] bcast_S_S150 v2
  let v4 : IVec S150 32 := Host.remsi arg0 v3
  let c_1 : IVec S_ 32 := constantI S_ 32 0#32
  let v5 : IVec S150 32 := broadcastInDim S150 ![] bcast_S_S150 c_1
  let v6 : IVec S150 1 := cmpi .ne v4 v5
  let c_2 : IVec S_ 32 := constantI S_ 32 0#32
  let v7 : IVec S150 32 := broadcastInDim S150 ![] bcast_S_S150 c_2
  let v8 : IVec S150 1 := cmpi .slt v4 v7
  let c_3 : IVec S_ 32 := constantI S_ 32 0#32
  let v9 : IVec S_ 1 := cmpi .slt v2 c_3
  let v10 : IVec S150 1 := broadcastInDim S150 ![] bcast_S_S150 v9
  let v11 : IVec S150 1 := cmpi .ne v8 v10
  let v12 : IVec S150 1 := andi v11 v6
  let v13 : IVec S150 32 := broadcastInDim S150 ![] bcast_S_S150 v2
  let v14 : IVec S150 32 := addi v4 v13
  let v15 : IVec S150 32 := select v12 v14 v4
  v15

def fn {F : FTy → Type} [FloatOps F] (main_arg0 : FVec F S2x128x48x48x48 .f32) (main_arg1 : IVec S2x1x48x48x48 32) : IVec S_ 1 :=
  let main_v0 : IVec S2x110592 32 := shapeCast S2x110592 main_arg1 shapeCasts_S2x1x48x48x48_S2x110592
  let main_v1 : IVec S2x150 32 := (extractStridedSlice S2x150 ![0, 0] · slices_S2x110592_S2x150_0_0) main_v0
  let main_v2 : IVec S150 32 := iotaInDim S150 32 0
  let main_c : IVec S_ 32 := constantI S_ 32 3#32
  let main_v3 : IVec S150 32 := fn_remainder (F := F) main_v2 main_c
  let main_v4 : IVec S2x150 32 := broadcastInDim S2x150 ![1] bcast_S150_S2x150_1 main_v3
  let main_v5 : IVec S2x150 1 := cmpi .eq main_v1 main_v4
  let main_c_0 : IVec S_ 1 := constantI S_ 1 1#1
  let main_v6 : IVec S_ 1 := (fun x v => Host.reduce IntOp.andi x v reducesTo_S2x150_S_d0_1 h_S_) main_v5 main_c_0
  main_v6
-- ==== Kernel.lean ====
abbrev S2x128x48x48x48 : Shape := ⟨5, ![2, 128, 48, 48, 48]⟩
abbrev S2x1x48x48x48 : Shape := ⟨5, ![2, 1, 48, 48, 48]⟩
abbrev S2x128x110592 : Shape := ⟨3, ![2, 128, 110592]⟩
abbrev S2x128x160 : Shape := ⟨3, ![2, 128, 160]⟩
abbrev S2x160x128 : Shape := ⟨3, ![2, 160, 128]⟩
abbrev S1x1 : Shape := ⟨2, ![1, 1]⟩
abbrev S1x160x128 : Shape := ⟨3, ![1, 160, 128]⟩
abbrev S160x128 : Shape := ⟨2, ![160, 128]⟩
abbrev S160x160 : Shape := ⟨2, ![160, 160]⟩
abbrev S160 : Shape := ⟨1, ![160]⟩
abbrev S160x1 : Shape := ⟨2, ![160, 1]⟩
abbrev S1 : Shape := ⟨1, ![1]⟩
abbrev S_ : Shape := ⟨0, ![]⟩

abbrev nBuf : Space → Nat
  | .hbm => 7
  | .vmem => 2
  | .smem => 0
  | _ => 0

abbrev bufTy : (tb : Table) → Fin (tcTables nBuf tb) → BufTy
  | .hbm, ⟨0, _⟩ => ⟨S2x128x48x48x48, .f32⟩
  | .hbm, ⟨1, _⟩ => ⟨S2x1x48x48x48, .i32⟩
  | .hbm, ⟨2, _⟩ => ⟨S2x128x110592, .f32⟩
  | .hbm, ⟨3, _⟩ => ⟨S2x128x160, .f32⟩
  | .hbm, ⟨4, _⟩ => ⟨S2x160x128, .f32⟩
  | .hbm, ⟨5, _⟩ => ⟨S1x1, .f32⟩
  | .hbm, ⟨6, _⟩ => ⟨S_, .f32⟩
  | .local _ .vmem, ⟨0, _⟩ => ⟨S2x160x128, .f32⟩
  | .local _ .vmem, ⟨1, _⟩ => ⟨S1x1, .f32⟩
  | _, _ => ⟨S2x128x48x48x48, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "inv_temp" => some ((134217728 / 9395241 : ℝ) : EReal)
  | "mask" => some ⊥
  | "mean_coeff" => some ((-1 / 300 : ℝ) : EReal)
  | _ => none
-- ==== ReferenceIdeal.lean ====
abbrev S2x128x48x48x48 : Shape := ⟨5, ![2, 128, 48, 48, 48]⟩
abbrev S2x1x48x48x48 : Shape := ⟨5, ![2, 1, 48, 48, 48]⟩
abbrev S1x128x48x48x48 : Shape := ⟨5, ![1, 128, 48, 48, 48]⟩
abbrev S128x48x48x48 : Shape := ⟨4, ![128, 48, 48, 48]⟩
abbrev S128x110592 : Shape := ⟨2, ![128, 110592]⟩
abbrev S110592x128 : Shape := ⟨2, ![110592, 128]⟩
abbrev S1x1x48x48x48 : Shape := ⟨5, ![1, 1, 48, 48, 48]⟩
abbrev S1x48x48x48 : Shape := ⟨4, ![1, 48, 48, 48]⟩
abbrev S110592 : Shape := ⟨1, ![110592]⟩
abbrev S_ : Shape := ⟨0, ![]⟩
abbrev S50 : Shape := ⟨1, ![50]⟩
abbrev S50x1 : Shape := ⟨2, ![50, 1]⟩
abbrev S50x128 : Shape := ⟨2, ![50, 128]⟩
abbrev S1x50x128 : Shape := ⟨3, ![1, 50, 128]⟩
abbrev S3x50x128 : Shape := ⟨3, ![3, 50, 128]⟩
abbrev S50x3x128 : Shape := ⟨3, ![50, 3, 128]⟩
abbrev S150x128 : Shape := ⟨2, ![150, 128]⟩
abbrev S3 : Shape := ⟨1, ![3]⟩
abbrev S1x3 : Shape := ⟨2, ![1, 3]⟩
abbrev S50x3 : Shape := ⟨2, ![50, 3]⟩
abbrev S150 : Shape := ⟨1, ![150]⟩
abbrev S128x150 : Shape := ⟨2, ![128, 150]⟩
abbrev S150x150 : Shape := ⟨2, ![150, 150]⟩
abbrev S150x1 : Shape := ⟨2, ![150, 1]⟩
abbrev S1x150 : Shape := ⟨2, ![1, 150]⟩
abbrev S1 : Shape := ⟨1, ![1]⟩
abbrev S2 : Shape := ⟨1, ![2]⟩

abbrev nBuf : Space → Nat
  | .hbm => 271
  | .vmem => 0
  | .smem => 0
  | _ => 0

abbrev hbmTy0_0 (i : Nat) : BufTy := match i % 128 with
  | 0 => ⟨S2x128x48x48x48, .f32⟩
  | 1 => ⟨S2x1x48x48x48, .i32⟩
  | 2 => ⟨S1x128x48x48x48, .f32⟩
  | 3 => ⟨S128x48x48x48, .f32⟩
  | 4 => ⟨S128x110592, .f32⟩
  | 5 => ⟨S110592x128, .f32⟩
  | 6 => ⟨S1x1x48x48x48, .i32⟩
  | 7 => ⟨S1x48x48x48, .i32⟩
  | 8 => ⟨S110592, .i32⟩
  | 9 => ⟨S_, .i32⟩
  | 10 => ⟨S110592, .i32⟩
  | 11 => ⟨S110592, .i1⟩
  | 12 => ⟨S_, .i32⟩
  | 13 => ⟨S_, .i32⟩
  | 14 => ⟨S110592, .i32⟩
  | 15 => ⟨S110592, .i32⟩
  | 16 => ⟨S110592, .i32⟩
  | 17 => ⟨S110592, .i32⟩
  | 18 => ⟨S110592, .i32⟩
  | 19 => ⟨S110592, .i32⟩
  | 20 => ⟨S50, .i32⟩
  | 21 => ⟨S_, .i32⟩
  | 22 => ⟨S50, .i32⟩
  | 23 => ⟨S50, .i1⟩
  | 24 => ⟨S_, .i32⟩
  | 25 => ⟨S50, .i32⟩
  | 26 => ⟨S50, .i32⟩
  | 27 => ⟨S50, .i32⟩
  | 28 => ⟨S50x1, .i32⟩
  | 29 => ⟨S50x128, .f32⟩
  | 30 => ⟨S_, .i32⟩
  | 31 => ⟨S110592, .i32⟩
  | 32 => ⟨S110592, .i1⟩
  | 33 => ⟨S_, .i32⟩
  | 34 => ⟨S_, .i32⟩
  | 35 => ⟨S110592, .i32⟩
  | 36 => ⟨S110592, .i32⟩
  | 37 => ⟨S110592, .i32⟩
  | 38 => ⟨S110592, .i32⟩
  | 39 => ⟨S110592, .i32⟩
  | 40 => ⟨S110592, .i32⟩
  | 41 => ⟨S50, .i32⟩
  | 42 => ⟨S_, .i32⟩
  | 43 => ⟨S50, .i32⟩
  | 44 => ⟨S50, .i1⟩
  | 45 => ⟨S_, .i32⟩
  | 46 => ⟨S50, .i32⟩
  | 47 => ⟨S50, .i32⟩
  | 48 => ⟨S50, .i32⟩
  | 49 => ⟨S50x1, .i32⟩
  | 50 => ⟨S50x128, .f32⟩
  | 51 => ⟨S_, .i32⟩
  | 52 => ⟨S110592, .i32⟩
  | 53 => ⟨S110592, .i1⟩
  | 54 => ⟨S_, .i32⟩
  | 55 => ⟨S_, .i32⟩
  | 56 => ⟨S110592, .i32⟩
  | 57 => ⟨S110592, .i32⟩
  | 58 => ⟨S110592, .i32⟩
  | 59 => ⟨S110592, .i32⟩
  | 60 => ⟨S110592, .i32⟩
  | 61 => ⟨S110592, .i32⟩
  | 62 => ⟨S50, .i32⟩
  | 63 => ⟨S_, .i32⟩
  | 64 => ⟨S50, .i32⟩
  | 65 => ⟨S50, .i1⟩
  | 66 => ⟨S_, .i32⟩
  | 67 => ⟨S50, .i32⟩
  | 68 => ⟨S50, .i32⟩
  | 69 => ⟨S50, .i32⟩
  | 70 => ⟨S50x1, .i32⟩
  | 71 => ⟨S50x128, .f32⟩
  | 72 => ⟨S1x50x128, .f32⟩
  | 73 => ⟨S1x50x128, .f32⟩
  | 74 => ⟨S1x50x128, .f32⟩
  | 75 => ⟨S3x50x128, .f32⟩
  | 76 => ⟨S50x3x128, .f32⟩
  | 77 => ⟨S150x128, .f32⟩
  | 78 => ⟨S3, .i32⟩
  | 79 => ⟨S1x3, .i32⟩
  | 80 => ⟨S50x3, .i32⟩
  | 81 => ⟨S150, .i32⟩
  | 82 => ⟨S128x150, .f32⟩
  | 83 => ⟨S150x150, .f32⟩
  | 84 => ⟨S_, .f32⟩
  | 85 => ⟨S150x150, .f32⟩
  | 86 => ⟨S150x150, .f32⟩
  | 87 => ⟨S_, .f32⟩
  | 88 => ⟨S150, .f32⟩
  | 89 => ⟨S150x1, .f32⟩
  | 90 => ⟨S150x150, .f32⟩
  | 91 => ⟨S150x150, .f32⟩
  | 92 => ⟨S150x1, .i32⟩
  | 93 => ⟨S1x150, .i32⟩
  | 94 => ⟨S150x150, .i32⟩
  | 95 => ⟨S150x150, .i32⟩
  | 96 => ⟨S150x150, .i1⟩
  | 97 => ⟨S150x150, .f32⟩
  | 98 => ⟨S_, .f32⟩
  | 99 => ⟨S150x150, .f32⟩
  | 100 => ⟨S150x150, .f32⟩
  | 101 => ⟨S150x150, .i32⟩
  | 102 => ⟨S150x150, .i32⟩
  | 103 => ⟨S_, .i32⟩
  | 104 => ⟨S150x150, .i32⟩
  | 105 => ⟨S150x150, .i32⟩
  | 106 => ⟨S150x150, .i1⟩
  | 107 => ⟨S150x150, .f32⟩
  | 108 => ⟨S_, .f32⟩
  | 109 => ⟨S150x150, .f32⟩
  | 110 => ⟨S150x150, .f32⟩
  | 111 => ⟨S150x150, .f32⟩
  | 112 => ⟨S150x150, .f32⟩
  | 113 => ⟨S150x150, .f32⟩
  | 114 => ⟨S_, .f32⟩
  | 115 => ⟨S150, .f32⟩
  | 116 => ⟨S150x1, .f32⟩
  | 117 => ⟨S150x150, .f32⟩
  | 118 => ⟨S150x150, .f32⟩
  | 119 => ⟨S150x150, .f32⟩
  | 120 => ⟨S150x150, .f32⟩
  | 121 => ⟨S150x150, .f32⟩
  | 122 => ⟨S_, .f32⟩
  | 123 => ⟨S150, .f32⟩
  | 124 => ⟨S_, .f32⟩
  | 125 => ⟨S150, .f32⟩
  | 126 => ⟨S150, .f32⟩
  | 127 => ⟨S_, .f32⟩
  | _ => ⟨S2x128x48x48x48, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S1x128x48x48x48, .f32⟩
  | 6 => ⟨S128x48x48x48, .f32⟩
  | 7 => ⟨S128x110592, .f32⟩
  | 8 => ⟨S110592x128, .f32⟩
  | 9 => ⟨S1x1x48x48x48, .i32⟩
  | 10 => ⟨S1x48x48x48, .i32⟩
  | 11 => ⟨S110592, .i32⟩
  | 12 => ⟨S_, .i32⟩
  | 13 => ⟨S110592, .i32⟩
  | 14 => ⟨S110592, .i1⟩
  | 15 => ⟨S_, .i32⟩
  | 16 => ⟨S_, .i32⟩
  | 17 => ⟨S110592, .i32⟩
  | 18 => ⟨S110592, .i32⟩
  | 19 => ⟨S110592, .i32⟩
  | 20 => ⟨S110592, .i32⟩
  | 21 => ⟨S110592, .i32⟩
  | 22 => ⟨S110592, .i32⟩
  | 23 => ⟨S50, .i32⟩
  | 24 => ⟨S_, .i32⟩
  | 25 => ⟨S50, .i32⟩
  | 26 => ⟨S50, .i1⟩
  | 27 => ⟨S_, .i32⟩
  | 28 => ⟨S50, .i32⟩
  | 29 => ⟨S50, .i32⟩
  | 30 => ⟨S50, .i32⟩
  | 31 => ⟨S50x1, .i32⟩
  | 32 => ⟨S50x128, .f32⟩
  | 33 => ⟨S_, .i32⟩
  | 34 => ⟨S110592, .i32⟩
  | 35 => ⟨S110592, .i1⟩
  | 36 => ⟨S_, .i32⟩
  | 37 => ⟨S_, .i32⟩
  | 38 => ⟨S110592, .i32⟩
  | 39 => ⟨S110592, .i32⟩
  | 40 => ⟨S110592, .i32⟩
  | 41 => ⟨S110592, .i32⟩
  | 42 => ⟨S110592, .i32⟩
  | 43 => ⟨S110592, .i32⟩
  | 44 => ⟨S50, .i32⟩
  | 45 => ⟨S_, .i32⟩
  | 46 => ⟨S50, .i32⟩
  | 47 => ⟨S50, .i1⟩
  | 48 => ⟨S_, .i32⟩
  | 49 => ⟨S50, .i32⟩
  | 50 => ⟨S50, .i32⟩
  | 51 => ⟨S50, .i32⟩
  | 52 => ⟨S50x1, .i32⟩
  | 53 => ⟨S50x128, .f32⟩
  | 54 => ⟨S_, .i32⟩
  | 55 => ⟨S110592, .i32⟩
  | 56 => ⟨S110592, .i1⟩
  | 57 => ⟨S_, .i32⟩
  | 58 => ⟨S_, .i32⟩
  | 59 => ⟨S110592, .i32⟩
  | 60 => ⟨S110592, .i32⟩
  | 61 => ⟨S110592, .i32⟩
  | 62 => ⟨S110592, .i32⟩
  | 63 => ⟨S110592, .i32⟩
  | 64 => ⟨S110592, .i32⟩
  | 65 => ⟨S50, .i32⟩
  | 66 => ⟨S_, .i32⟩
  | 67 => ⟨S50, .i32⟩
  | 68 => ⟨S50, .i1⟩
  | 69 => ⟨S_, .i32⟩
  | 70 => ⟨S50, .i32⟩
  | 71 => ⟨S50, .i32⟩
  | 72 => ⟨S50, .i32⟩
  | 73 => ⟨S50x1, .i32⟩
  | 74 => ⟨S50x128, .f32⟩
  | 75 => ⟨S1x50x128, .f32⟩
  | 76 => ⟨S1x50x128, .f32⟩
  | 77 => ⟨S1x50x128, .f32⟩
  | 78 => ⟨S3x50x128, .f32⟩
  | 79 => ⟨S50x3x128, .f32⟩
  | 80 => ⟨S150x128, .f32⟩
  | 81 => ⟨S3, .i32⟩
  | 82 => ⟨S1x3, .i32⟩
  | 83 => ⟨S50x3, .i32⟩
  | 84 => ⟨S150, .i32⟩
  | 85 => ⟨S128x150, .f32⟩
  | 86 => ⟨S150x150, .f32⟩
  | 87 => ⟨S_, .f32⟩
  | 88 => ⟨S150x150, .f32⟩
  | 89 => ⟨S150x150, .f32⟩
  | 90 => ⟨S_, .f32⟩
  | 91 => ⟨S150, .f32⟩
  | 92 => ⟨S150x1, .f32⟩
  | 93 => ⟨S150x150, .f32⟩
  | 94 => ⟨S150x150, .f32⟩
  | 95 => ⟨S150x1, .i32⟩
  | 96 => ⟨S1x150, .i32⟩
  | 97 => ⟨S150x150, .i32⟩
  | 98 => ⟨S150x150, .i32⟩
  | 99 => ⟨S150x150, .i1⟩
  | 100 => ⟨S150x150, .f32⟩
  | 101 => ⟨S_, .f32⟩
  | 102 => ⟨S150x150, .f32⟩
  | 103 => ⟨S150x150, .f32⟩
  | 104 => ⟨S150x150, .i32⟩
  | 105 => ⟨S150x150, .i32⟩
  | 106 => ⟨S_, .i32⟩
  | 107 => ⟨S150x150, .i32⟩
  | 108 => ⟨S150x150, .i32⟩
  | 109 => ⟨S150x150, .i1⟩
  | 110 => ⟨S150x150, .f32⟩
  | 111 => ⟨S_, .f32⟩
  | 112 => ⟨S150x150, .f32⟩
  | 113 => ⟨S150x150, .f32⟩
  | 114 => ⟨S150x150, .f32⟩
  | 115 => ⟨S150x150, .f32⟩
  | 116 => ⟨S150x150, .f32⟩
  | 117 => ⟨S_, .f32⟩
  | 118 => ⟨S150, .f32⟩
  | 119 => ⟨S150x1, .f32⟩
  | 120 => ⟨S150x150, .f32⟩
  | 121 => ⟨S150x150, .f32⟩
  | 122 => ⟨S150x150, .f32⟩
  | 123 => ⟨S150x150, .f32⟩
  | 124 => ⟨S150x150, .f32⟩
  | 125 => ⟨S_, .f32⟩
  | 126 => ⟨S150, .f32⟩
  | 127 => ⟨S_, .f32⟩
  | _ => ⟨S2x128x48x48x48, .f32⟩

abbrev hbmTy0_2 (i : Nat) : BufTy := match i % 128 with
  | 0 => ⟨S150, .f32⟩
  | 1 => ⟨S150, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S1, .f32⟩
  | 9 => ⟨S1, .f32⟩
  | 10 => ⟨S2, .f32⟩
  | 11 => ⟨S_, .f32⟩
  | 12 => ⟨S_, .f32⟩
  | 13 => ⟨S_, .f32⟩
  | 14 => ⟨S_, .f32⟩
  | _ => ⟨S2x128x48x48x48, .f32⟩

abbrev hbmTy (i : Nat) : BufTy := match i / 128 with
  | 0 => hbmTy0_0 i
  | 1 => hbmTy0_1 i
  | 2 => hbmTy0_2 i
  | _ => ⟨S2x128x48x48x48, .f32⟩

abbrev bufTy : (tb : Table) → Fin (tcTables nBuf tb) → BufTy
  | .hbm, ⟨i, _⟩ => hbmTy i
  | _, _ => ⟨S2x128x48x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_call1_v0 : Ref sig .tc := ⟨.hbm, 17, rfl⟩
abbrev main_call1_v1_0 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_c_6 : Ref sig .tc := ⟨.hbm, 34, rfl⟩
abbrev main_call2_v0 : Ref sig .tc := ⟨.hbm, 35, rfl⟩
abbrev main_call2_v1 : Ref sig .tc := ⟨.hbm, 36, rfl⟩
abbrev main_v21 : Ref sig .tc := ⟨.hbm, 37, rfl⟩
abbrev main_call3_v0 : Ref sig .tc := ⟨.hbm, 38, rfl⟩
abbrev main_call3_v1_0 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_c_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_9 : Ref sig .tc := ⟨.hbm, 51, rfl⟩
abbrev main_v31 : Ref sig .tc := ⟨.hbm, 52, rfl⟩
abbrev main_v32 : Ref sig .tc := ⟨.hbm, 53, rfl⟩
abbrev main_c_10 : Ref sig .tc := ⟨.hbm, 54, rfl⟩
abbrev main_c_11 : Ref sig .tc := ⟨.hbm, 55, rfl⟩
abbrev main_call4_v0 : Ref sig .tc := ⟨.hbm, 56, rfl⟩
abbrev main_call4_v1 : Ref sig .tc := ⟨.hbm, 57, rfl⟩
abbrev main_v33 : Ref sig .tc := ⟨.hbm, 58, rfl⟩
abbrev main_call5_v0 : Ref sig .tc := ⟨.hbm, 59, rfl⟩
abbrev main_call5_v1_0 : Ref sig .tc := ⟨.hbm, 60, rfl⟩
abbrev main_v34 : Ref sig .tc := ⟨.hbm, 61, rfl⟩
abbrev main_v35 : Ref sig .tc := ⟨.hbm, 62, rfl⟩
abbrev main_c_12 : Ref sig .tc := ⟨.hbm, 63, rfl⟩
abbrev main_v36 : Ref sig .tc := ⟨.hbm, 64, rfl⟩
abbrev main_v37 : Ref sig .tc := ⟨.hbm, 65, rfl⟩
abbrev main_c_13 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst : Ref sig .tc := ⟨.hbm, 84, rfl⟩
abbrev main_v55 : Ref sig .tc := ⟨.hbm, 85, rfl⟩
abbrev main_v56 : Ref sig .tc := ⟨.hbm, 86, rfl⟩
abbrev main_cst_14 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_19 : Ref sig .tc := ⟨.hbm, 122, rfl⟩
abbrev main_v87 : Ref sig .tc := ⟨.hbm, 123, rfl⟩
abbrev main_cst_20 : Ref sig .tc := ⟨.hbm, 124, rfl⟩
abbrev main_v88 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_cst_22 : Ref sig .tc := ⟨.hbm, 129, rfl⟩
abbrev main_v91 : Ref sig .tc := ⟨.hbm, 130, rfl⟩
abbrev main_cst_23 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_24 : Ref sig .tc := ⟨.hbm, 140, rfl⟩
abbrev main_v100 : Ref sig .tc := ⟨.hbm, 141, rfl⟩
abbrev main_v101 : Ref sig .tc := ⟨.hbm, 142, rfl⟩
abbrev main_c_25 : Ref sig .tc := ⟨.hbm, 143, rfl⟩
abbrev main_c_26 : Ref sig .tc := ⟨.hbm, 144, rfl⟩
abbrev main_call6_v0 : Ref sig .tc := ⟨.hbm, 145, rfl⟩
abbrev main_call6_v1 : Ref sig .tc := ⟨.hbm, 146, rfl⟩
abbrev main_v102 : Ref sig .tc := ⟨.hbm, 147, rfl⟩
abbrev main_call7_v0 : Ref sig .tc := ⟨.hbm, 148, rfl⟩
abbrev main_call7_v1_0 : Ref sig .tc := ⟨.hbm, 149, rfl⟩
abbrev main_v103 : Ref sig .tc := ⟨.hbm, 150, rfl⟩
abbrev main_v104 : Ref sig .tc := ⟨.hbm, 151, rfl⟩
abbrev main_c_27 : Ref sig .tc := ⟨.hbm, 152, rfl⟩
abbrev main_v105 : Ref sig .tc := ⟨.hbm, 153, rfl⟩
abbrev main_v106 : Ref sig .tc := ⟨.hbm, 154, rfl⟩
abbrev main_c_28 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_c_29 : Ref sig .tc := ⟨.hbm, 161, rfl⟩
abbrev main_v112 : Ref sig .tc := ⟨.hbm, 162, rfl⟩
abbrev main_v113 : Ref sig .tc := ⟨.hbm, 163, rfl⟩
abbrev main_c_30 : Ref sig .tc := ⟨.hbm, 164, rfl⟩
abbrev main_c_31 : Ref sig .tc := ⟨.hbm, 165, rfl⟩
abbrev main_call8_v0 : Ref sig .tc := ⟨.hbm, 166, rfl⟩
abbrev main_call8_v1 : Ref sig .tc := ⟨.hbm, 167, rfl⟩
abbrev main_v114 : Ref sig .tc := ⟨.hbm, 168, rfl⟩
abbrev main_call9_v0 : Ref sig .tc := ⟨.hbm, 169, rfl⟩
abbrev main_call9_v1_0 : Ref sig .tc := ⟨.hbm, 170, rfl⟩
abbrev main_v115 : Ref sig .tc := ⟨.hbm, 171, rfl⟩
abbrev main_v116 : Ref sig .tc := ⟨.hbm, 172, rfl⟩
abbrev main_c_32 : Ref sig .tc := ⟨.hbm, 173, rfl⟩
abbrev main_v117 : Ref sig .tc := ⟨.hbm, 174, rfl⟩
abbrev main_v118 : Ref sig .tc := ⟨.hbm, 175, rfl⟩
abbrev main_c_33 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_c_34 : Ref sig .tc := ⟨.hbm, 182, rfl⟩
abbrev main_v124 : Ref sig .tc := ⟨.hbm, 183, rfl⟩
abbrev main_v125 : Ref sig .tc := ⟨.hbm, 184, rfl⟩
abbrev main_c_35 : Ref sig .tc := ⟨.hbm, 185, rfl⟩
abbrev main_c_36 : Ref sig .tc := ⟨.hbm, 186, rfl⟩
abbrev main_call10_v0 : Ref sig .tc := ⟨.hbm, 187, rfl⟩
abbrev main_call10_v1 : Ref sig .tc := ⟨.hbm, 188, rfl⟩
abbrev main_v126 : Ref sig .tc := ⟨.hbm, 189, rfl⟩
abbrev main_call11_v0 : Ref sig .tc := ⟨.hbm, 190, rfl⟩
abbrev main_call11_v1_0 : Ref sig .tc := ⟨.hbm, 191, rfl⟩
abbrev main_v127 : Ref sig .tc := ⟨.hbm, 192, rfl⟩
abbrev main_v128 : Ref sig .tc := ⟨.hbm, 193, rfl⟩
abbrev main_c_37 : Ref sig .tc := ⟨.hbm, 194, rfl⟩
abbrev main_v129 : Ref sig .tc := ⟨.hbm, 195, rfl⟩
abbrev main_v130 : Ref sig .tc := ⟨.hbm, 196, rfl⟩
abbrev main_c_38 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_cst_39 : Ref sig .tc := ⟨.hbm, 215, rfl⟩
abbrev main_v148 : Ref sig .tc := ⟨.hbm, 216, rfl⟩
abbrev main_v149 : Ref sig .tc := ⟨.hbm, 217, rfl⟩
abbrev main_cst_40 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_cst_41 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_c_42 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_cst_43 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_cst_44 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_cst_45 : Ref sig .tc := ⟨.hbm, 253, rfl⟩
abbrev main_v180 : Ref sig .tc := ⟨.hbm, 254, rfl⟩
abbrev main_cst_46 : Ref sig .tc := ⟨.hbm, 255, rfl⟩
abbrev main_v181 : Ref sig .tc := ⟨.hbm, 256, rfl⟩
abbrev main_v182 : Ref sig .tc := ⟨.hbm, 257, rfl⟩
abbrev main_cst_47 : Ref sig .tc := ⟨.hbm, 258, rfl⟩
abbrev main_v183 : Ref sig .tc := ⟨.hbm, 259, rfl⟩
abbrev main_cst_48 : Ref sig .tc := ⟨.hbm, 260, rfl⟩
abbrev main_v184 : Ref sig .tc := ⟨.hbm, 261, rfl⟩
abbrev main_cst_49 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_cst_50 : Ref sig .tc := ⟨.hbm, 267, rfl⟩
abbrev main_v189 : Ref sig .tc := ⟨.hbm, 268, rfl⟩
abbrev main_cst_51 : Ref sig .tc := ⟨.hbm, 269, rfl⟩
abbrev main_v190 : Ref sig .tc := ⟨.hbm, 270, rfl⟩

abbrev nD : Nat := 1
abbrev τ : Topo := Topo.v7x

variable {F : FTy → Type} [FloatOps F]
-- ==== Proof.LossMath.lean ====
/- The loss of 150 anchors as a formula on extended reals, and the same formula over 160 columns of which the last ten are
   masked: a masked column contributes `⊥` to the maximum and zero to every sum, so the two agree. Then the arithmetic
   that joins the two means: a product with the reciprocal for a quotient, and a nonnegative finite factor that
   distributes over a sum. -/
module

public import Idealize.ShloMosaic.PureOps.Ideal
public import Idealize.ShloMosaic.PureOps.Ideal.Laws
public import Mathlib.Algebra.BigOperators.Fin

@[expose] public section

noncomputable section

namespace Cert.LossMath

open Idealize.ShloMosaic
open scoped BigOperators

/-- Anchor `i` of 150 as one of the 160 rows. -/
abbrev up (i : Fin 150) : Fin 160 := Fin.castLE (by omega) i

/-- The maximum of a row. -/
def rowMax (l : Fin 150 → EReal) : EReal := Finset.univ.fold max ⊥ l

/-- The sum over a row's other classes of the exponentials of the shifted logits. -/
def negSum (l : Fin 150 → EReal) (r : Fin 150) : EReal :=
  ∑ k : Fin 150, if r.val % 3 = k.val % 3 then 0 else Ideal.exp (l k - rowMax l)

/-- The mean over anchor `r`'s positives of their log probabilities, from the row `l` of its logits. -/
def anchorMean (l : Fin 150 → EReal) (r : Fin 150) : EReal :=
  Ideal.div
    (∑ k : Fin 150, if r.val % 3 = k.val % 3 ∧ r.val ≠ k.val then
      (l k - rowMax l) - Ideal.log (Ideal.exp (l k - rowMax l) + negSum l r) else 0)
    (∑ k : Fin 150, if r.val % 3 = k.val % 3 ∧ r.val ≠ k.val then 1 else 0)

/-- The sum of the anchors' means, for the matrix `L` of logits. -/
def total (L : Fin 150 → Fin 150 → EReal) : EReal := ∑ r : Fin 150, anchorMean (L r) r

/-! ## The masked row of 160 -/

/-- A sum over 160 columns whose last ten are zero is the sum over the first 150. -/
theorem sum_up (f : Fin 160 → EReal) (h : ∀ k : Fin 160, 150 ≤ k.val → f k = 0) : ∑ k, f k = ∑ k : Fin 150, f (up k) := by
  have e := Fin.sum_univ_add (a := 150) (b := 10) f
  rw [e]
  have z : ∑ i : Fin 10, f (Fin.natAdd 150 i) = 0 := Finset.sum_eq_zero fun i _ => h _ (by simp [Fin.natAdd])
  rw [z, add_zero]
  rfl

/-- The maximum over 160 columns whose last ten are `⊥` is the maximum over the first 150. -/
theorem max_up (f : Fin 160 → EReal) (h : ∀ k : Fin 160, 150 ≤ k.val → f k = ⊥) :
    Finset.univ.fold max ⊥ f = Finset.univ.fold max ⊥ fun k : Fin 150 => f (up k) := by
  refine le_antisymm (Finset.fold_max_le _ |>.mpr ⟨bot_le, fun k _ => ?_⟩) (Finset.fold_max_le _ |>.mpr ⟨bot_le, fun k _ => ?_⟩)
  · by_cases hk : k.val < 150
    · exact (Finset.le_fold_max _).mpr (Or.inr ⟨⟨k.val, hk⟩, Finset.mem_univ _, le_of_eq (congrArg f (Fin.ext rfl))⟩)
    · rw [h k (by omega)]; exact bot_le
  · exact (Finset.le_fold_max _).mpr (Or.inr ⟨up k, Finset.mem_univ _, le_rfl⟩)

/-- The maximum of a row of 160 under the mask. -/
def maskedMax (l : Fin 160 → EReal) : EReal := Finset.univ.fold max ⊥ fun k => if k.val < 150 then l k else ⊥

/-- The exponential of a shifted logit under the mask. -/
def maskedExp (l : Fin 160 → EReal) (k : Fin 160) : EReal := if k.val < 150 then Ideal.exp (l k - maskedMax l) else 0

/-- The sum over a masked row's other classes. -/
def maskedNegSum (l : Fin 160 → EReal) (r : Fin 160) : EReal :=
  ∑ k : Fin 160, if k.val < 150 ∧ ¬ r.val % 3 = k.val % 3 then maskedExp l k else 0

/-- `anchorMean` over a masked row of 160. -/
def maskedMean (l : Fin 160 → EReal) (r : Fin 160) : EReal :=
  Ideal.div
    (∑ k : Fin 160, if (k.val < 150 ∧ r.val % 3 = k.val % 3) ∧ r.val ≠ k.val then
      (l k - maskedMax l) - Ideal.log (maskedExp l k + maskedNegSum l r) else 0)
    (∑ k : Fin 160, if (k.val < 150 ∧ r.val % 3 = k.val % 3) ∧ r.val ≠ k.val then 1 else 0)

theorem maskedMax_eq (l : Fin 160 → EReal) : maskedMax l = rowMax fun k => l (up k) := by
  unfold maskedMax rowMax
  rw [max_up _ fun k hk => if_neg (by omega)]
  congr 1
  funext k
  exact if_pos k.isLt

theorem maskedExp_eq (l : Fin 160 → EReal) (k : Fin 150) :
    maskedExp l (up k) = Ideal.exp (l (up k) - rowMax fun k => l (up k)) := by
  unfold maskedExp
  rw [maskedMax_eq]
  exact if_pos k.isLt

theorem maskedNegSum_eq (l : Fin 160 → EReal) (r : Fin 150) : maskedNegSum l (up r) = negSum (fun k => l (up k)) r := by
  unfold maskedNegSum negSum
  rw [sum_up _ fun k hk => if_neg (by omega)]
  refine Finset.sum_congr rfl fun k _ => ?_
  rw [maskedExp_eq]
  have hk : (up k).val < 150 := k.isLt
  by_cases e : r.val % 3 = k.val % 3
  · rw [if_pos e, if_neg (fun h => h.2 e)]
  · rw [if_neg e, if_pos ⟨hk, e⟩]

/-- The masked mean of one of the first 150 rows is the mean over the first 150 columns. -/
theorem maskedMean_eq (l : Fin 160 → EReal) (r : Fin 150) : maskedMean l (up r) = anchorMean (fun k => l (up k)) r := by
  have hp : ∀ k : Fin 150, (((up k).val < 150 ∧ (up r).val % 3 = (up k).val % 3) ∧ (up r).val ≠ (up k).val)
      ↔ (r.val % 3 = k.val % 3 ∧ r.val ≠ k.val) := fun k => ⟨fun h => ⟨h.1.2, h.2⟩, fun h => ⟨⟨k.isLt, h.1⟩, h.2⟩⟩
  unfold maskedMean anchorMean
  rw [sum_up _ fun k hk => if_neg (by omega), sum_up _ fun k hk => if_neg (by omega)]
  simp only [hp, maskedExp_eq, maskedNegSum_eq, maskedMax_eq]

/-- The sum of the masked means of the first 150 rows. -/
theorem total_eq (L : Fin 160 → Fin 160 → EReal) :
    (∑ r : Fin 160, if r.val < 150 then maskedMean (L r) r else 0) = total fun r k => L (up r) (up k) := by
  unfold total
  rw [sum_up _ fun k hk => if_neg (by omega)]
  refine Finset.sum_congr rfl fun r _ => ?_
  rw [if_pos (show (up r).val < 150 from r.isLt), maskedMean_eq]

/-! ## The two means -/

/-- Two sums weighted by minus one over 300 are the mean of the two negated means over 150. -/
theorem mean_eq (s t : EReal) :
    s * ((-1 / 300 : ℝ) : EReal) + t * ((-1 / 300 : ℝ) : EReal)
      = Ideal.div (((-1 : ℝ) : EReal) * Ideal.div s ((150 : ℝ) : EReal) + ((-1 : ℝ) : EReal) * Ideal.div t ((150 : ℝ) : EReal))
          ((2 : ℝ) : EReal) := by
  have h : ∀ x : EReal, x * ((-1 / 300 : ℝ) : EReal)
      = (((-1 : ℝ) : EReal) * (x * ((1 / 150 : ℝ) : EReal))) * ((1 / 2 : ℝ) : EReal) := by
    intro x
    rw [mul_assoc, mul_assoc, ← EReal.coe_mul, mul_left_comm, ← EReal.coe_mul]
    congr 2
    norm_num
  rw [Ideal.div_coe (by norm_num), Ideal.div_coe (by norm_num), Ideal.div_coe (by norm_num), h s, h t]
  have hd := EReal.left_distrib_of_nonneg_of_ne_top (x := ((1 / 2 : ℝ) : EReal)) (by exact_mod_cast (by norm_num : (0:ℝ) ≤ 1 / 2))
    (EReal.coe_ne_top _) (((-1 : ℝ) : EReal) * (s * ((1 / 150 : ℝ) : EReal))) (((-1 : ℝ) : EReal) * (t * ((1 / 150 : ℝ) : EReal)))
  rw [mul_comm _ ((1 / 2 : ℝ) : EReal), mul_comm _ ((1 / 2 : ℝ) : EReal), mul_comm _ ((1 / 2 : ℝ) : EReal)]
  exact hd.symm

end Cert.LossMath

end
-- ==== Proof.Consts.lean ====
/- The float constants the programs spell, as the extended reals their patterns denote. -/
module

public import Idealize.ShloMosaic.PureOps.Ideal

@[expose] public section

noncomputable section

namespace Cert.Consts

open Idealize.ShloMosaic

/-- The f32 nearest to 0.07, the reference's temperature. -/
theorem temperature : Ideal.ofBits .f32 0x3D8F5C29#32 = ((9395241 / 134217728 : ℝ) : EReal) := by
  simp [Ideal.ofBits, Ideal.ieee, -EReal.coe_mul]; norm_num

/-- Minus one, the factor of the reference's loss. -/
theorem minus_one : Ideal.ofBits .f32 0xBF800000#32 = ((-1 : ℝ) : EReal) := by
  simp [Ideal.ofBits, Ideal.ieee, -EReal.coe_mul, -EReal.coe_neg]; norm_num

/-- The number of anchors. -/
theorem anchors : Ideal.ofBits .f32 0x43160000#32 = ((150 : ℝ) : EReal) := by
  simp [Ideal.ofBits, Ideal.ieee, -EReal.coe_mul]; norm_num

/-- The number of batch elements. -/
theorem batch : Ideal.ofBits .f32 0x40000000#32 = ((2 : ℝ) : EReal) := by
  simp [Ideal.ofBits, Ideal.ieee, -EReal.coe_mul]; norm_num

/-- The maximum's initial value. -/
theorem negInf : Ideal.ofBits .f32 0xFF800000#32 = ⊥ := by
  simp [Ideal.ofBits, Ideal.ieee]

end Cert.Consts

end
-- ==== Proof.KernelLoss.lean ====
/- What the kernel's body leaves, read on extended reals: for each of its two batch elements the body forms the 160 by 160
   logits of its rows, masks the last ten of them, and adds the loss of the first 150 to its result. -/
module

public import proofs.«01_k».proof.Proof.Gen.KernelIdeal.Frame
public import proofs.«01_k».proof.Proof.LossMath
public import proofs.«01_k».proof.Proof.Consts
public import Idealize.ShloMosaic.Lib.Pointwise
public import Idealize.ShloMosaic.Lib.WordCmp
public import Idealize.ShloMosaic.Lib.Pipeline.Value

@[expose] public section

noncomputable section

namespace Cert.KernelLoss

open Cert.KernelIdeal Cert.KernelIdeal.Gen Cert.LossMath Idealize.ShloMosaic Idealize.ShloMosaic.WordCmp

/-- The mask's value is minus infinity. -/
theorem mask_value : Named.named (F := Ideal) Cert.KernelIdeal.κ "mask" (φ := .f32) 0xF149F2CA#32 = (⊥ : EReal) :=
  IdealRules.named_const.ideal_named_scalar _ _ _ _ rfl

/-- The factor of the logits is the reciprocal of the reference's temperature. -/
theorem inv_temp_value : Named.named (F := Ideal) Cert.KernelIdeal.κ "inv_temp" (φ := .f32) 0x41649249#32
    = ((134217728 / 9395241 : ℝ) : EReal) :=
  IdealRules.named_const.ideal_named_scalar _ _ _ _ rfl

/-- The factor of the summed means. -/
theorem mean_coeff_value : Named.named (F := Ideal) Cert.KernelIdeal.κ "mean_coeff" (φ := .f32) 0xBB5A740E#32
    = ((-1 / 300 : ℝ) : EReal) :=
  IdealRules.named_const.ideal_named_scalar _ _ _ _ rfl

/-- The logits of the kernel's 160 rows. -/
def logits (x : Vec Ideal S1x160x128 .f32) (r k : Fin 160) : EReal :=
  (∑ d : Fin 128, x (ix3 0 r d) * x (ix3 0 k d)) * ((134217728 / 9395241 : ℝ) : EReal)

/-- The body's logits. -/
theorem pay1_apply (x : Vec Ideal S1x160x128 .f32) (r k : Fin 160) : k0_pay1 x (ix2 r k) = logits x r k := by
  pointwise [k0_pay1]
  rw [inv_temp_value]
  rfl

/-- The mask of the first 150 columns. -/
theorem pay2_apply (r k : Fin 160) : k0_pay2 (ix2 r k) = BitVec.ofBool (decide (k.val < 150)) := by
  pointwise [k0_pay2]
  exact cmpi_slt_ofNat (by omega) (by omega)

/-- The mask of the pairs of one class. -/
theorem pay3_apply (r k : Fin 160) : k0_pay3 (ix2 r k) = BitVec.ofBool (decide (r.val % 3 = k.val % 3)) := by
  pointwise [k0_pay3]
  have h : ∀ n : Fin 160, Scalar.select
      (IntOp.andi
        (IntOp.xori
          (IntOp.cmpi .slt
            (IntOp.remsi .vector (BitVec.ofNat 32 n.val) (Scalar.select (Scalar.cmpi .eq 3#32 0#32) 1#32 3#32)) 0#32)
          (Scalar.cmpi .slt (Scalar.select (Scalar.cmpi .eq 3#32 0#32) 1#32 3#32) 0#32))
        (IntOp.cmpi .ne
          (IntOp.remsi .vector (BitVec.ofNat 32 n.val) (Scalar.select (Scalar.cmpi .eq 3#32 0#32) 1#32 3#32)) 0#32))
      (IntOp.addi
        (IntOp.remsi .vector (BitVec.ofNat 32 n.val) (Scalar.select (Scalar.cmpi .eq 3#32 0#32) 1#32 3#32))
        (Scalar.select (Scalar.cmpi .eq 3#32 0#32) 1#32 3#32))
      (IntOp.remsi .vector (BitVec.ofNat 32 n.val) (Scalar.select (Scalar.cmpi .eq 3#32 0#32) 1#32 3#32))
      = BitVec.ofNat 32 (n.val % 3) := by decide +kernel
  rw [h, h, cmpi_eq_ofNat (by omega) (by omega)]

/-- One batch element's contribution to the result. -/
theorem pay4_apply (l : FVec Ideal S160x160 .f32) :
    k0_pay4 (F := Ideal) l (iota .tc S160x160 32 [0] iota_S160x160_d0_w32) (iota .tc S160x160 32 [1] iota_S160x160_d1_w32) k0_pay2 k0_pay3 (ix2 0 0)
      = total (fun r k => l (ix2 (up r) (up k))) * ((-1 / 300 : ℝ) : EReal) := by
  obtain ⟨T, hT⟩ : ∃ T, T = total fun r k => l (ix2 (up r) (up k)) := ⟨_, rfl⟩
  rw [← hT]
  pointwise [k0_pay4]
  simp only [pay2_apply, pay3_apply, mask_value, mean_coeff_value, Consts.negInf]
  rw [hT, ← total_eq fun r k => l (ix2 r k)]
  refine congrArg (· * _) (Finset.sum_congr rfl fun r _ => ?_)
  have hx : ∀ p : Prop, ∀ _ : Decidable p, IntOp.xori (BitVec.ofBool (decide p)) 1#1 = BitVec.ofBool (decide ¬p) := fun p _ => by
    by_cases h : p <;> simp [h] <;> decide
  have hs : IntOp.cmpi .slt (BitVec.ofNat 32 r.val) 150#32 = BitVec.ofBool (decide (r.val < 150)) :=
    cmpi_slt_ofNat (by omega) (by omega)
  have hne : ∀ k : Fin 160, IntOp.cmpi .ne (BitVec.ofNat 32 r.val) (BitVec.ofNat 32 k.val) = BitVec.ofBool (decide (r.val ≠ k.val)) :=
    fun k => cmpi_ne_ofNat (by omega) (by omega)
  simp only [hs, hne, hx, andi_ofBool, select_ofBool, decide_eq_true_eq, Bool.and_eq_true]
  rfl

/-- The body's result: both batch elements' contributions. -/
theorem out_apply (x : Vec Ideal S2x160x128 .f32) :
    out0_1 x (ix2 0 0)
      = total (fun r k => (∑ d : Fin 128, x (ix3 0 (up r) d) * x (ix3 0 (up k) d)) * ((134217728 / 9395241 : ℝ) : EReal))
            * ((-1 / 300 : ℝ) : EReal)
        + total (fun r k => (∑ d : Fin 128, x (ix3 1 (up r) d) * x (ix3 1 (up k) d)) * ((134217728 / 9395241 : ℝ) : EReal))
            * ((-1 / 300 : ℝ) : EReal) := by
  have hb : ∀ (v : FVec Ideal S1x1 .f32) (y : Vec Ideal S1x160x128 .f32) (a b : IVec S160x160 32),
      k0_pay9 v (k0_pay5 y) a b k0_pay6 k0_pay7 (k0_pay8 y) = addf v (k0_pay4 (k0_pay1 y) a b k0_pay2 k0_pay3) :=
    fun _ _ _ _ => rfl
  have h0 : ∀ (j : Fin 160) (d : Fin 128), View.ld (Val := Elt Ideal) x r0_0 (ix3 0 j d) = x (ix3 0 j d) := fun j d => by
    pointwise
  have h1 : ∀ (j : Fin 160) (d : Fin 128), View.ld (Val := Elt Ideal) x r0_1 (ix3 0 j d) = x (ix3 1 j d) := fun j d => by
    pointwise
  unfold out0_1
  rw [View.canon_unit_zero (by funext a; fin_cases a <;> rfl), hb]
  show k0_pay4 _ _ _ _ _ (ix2 0 0) + k0_pay4 _ _ _ _ _ (ix2 0 0) = _
  rw [pay4_apply, pay4_apply]
  simp only [pay1_apply, logits, h0, h1]

end Cert.KernelLoss

end
-- ==== Proof.KernelRun.lean ====
/- The idealized kernel's run, its result read at its argument: the region's one grid point writes the whole result array
   from the rows the lines before the region prepare, and the line after the region takes its one entry. -/
module

public import proofs.«01_k».proof.Proof.KernelLoss
public import Idealize.ShloMosaic.Lib.Claim

@[expose] public section

noncomputable section

namespace Cert.KernelRun

open Cert.KernelIdeal Cert.KernelIdeal.Gen Cert.LossMath Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The rows the region is given: the first voxels' features, a row per voxel. -/
theorem rows_eq (c : Dev nD) (b : Fin 2) (j : Fin 160) (d : Fin 128) :
    V m c main_v2 (ix3 b j d) = m ((c : Thread nD τ).loc main_arg0)
      (ix5 b d ⟨j.val / 2304, by omega⟩ ⟨j.val / 48 % 48, by omega⟩ ⟨j.val % 48, by omega⟩) := by
  unfold V V0
  simp only [List.flatten_cons, List.flatten_nil, List.append_nil]
  after_results
  pointwise

/-- The region's one grid point. -/
def pt : Fin cfg0.N := ⟨0, by decide⟩

/-- The one block of the rows is the whole of them. -/
theorem block_eq (c : Dev nD) (b : Fin 2) (j : Fin 160) (d : Fin 128) :
    iblk m c 0 pt (ix3 b j d) = V m c main_v2 (ix3 b j d) := by
  unfold iblk
  exact congrArg (V m c main_v2) (funext fun a => Fin.ext (Pipeline.Window.rect_emb_val_of_index_zero win0_0 pt a rfl _))

/-- The region's result array after the run. -/
theorem array_eq (c : Dev nD) : (dats m 0 c).arrAt 1 cfg0.N (ix2 0 0) = out0_1 (iblk m c 0 pt) (ix2 0 0) := by
  have h := (dats m 0 c).read_blk_arrAt_eq_flushed 1 (fun t t' _ _ h => absurd (Subsingleton.elim (α := Fin 1) t t') h) cfg0.N pt
    (by decide) (by decide)
  have e := congrFun h (ix2 0 0)
  have hw : ((cfg0.win 1).blk pt).view.emb (ix2 0 0) = (ix2 0 0 : S1x1.Idx) :=
    funext fun a => Fin.ext (Pipeline.Window.rect_emb_val_of_index_zero win0_1 pt a rfl _)
  have hf : (dats m 0 c).flushed 1 pt = out0_1 (iblk m c 0 pt) := rfl
  rw [hf] at e
  refine Eq.trans ?_ e
  exact congrArg ((dats m 0 c).arrAt 1 cfg0.N) hw.symm

/-- The result, taken from the region's result array by the line after the region. -/
theorem result_eq (c : Dev nD) :
    Pipeline.afterTail₀ cfgs (dats m) 0 (V0 m) [hostOps1] c main_v4 ix0 = (dats m 0 c).arrAt 1 cfg0.N (ix2 0 0) := by
  unfold Pipeline.afterTail₀
  simp only [List.flatten_cons, List.flatten_nil, List.append_nil]
  after_results
  have h : Pipeline.withArrays (cfgs 0).spec c (V0 m c) (fun w => (dats m 0 c).arrAt w (cfgs 0).N) (Proc.tc.devRef main_v3)
      = (dats m 0 c).arrAt 1 cfg0.N := Pipeline.withArrays_arr spec0 launch0.win.arr_inj c _ _ 1
  rw [h]
  generalize (dats m 0 c).arrAt 1 cfg0.N = a
  show shapeCast S_ (a : Vec Ideal S1x1 .f32) shapeCasts_S1x1_S_ ix0 = _
  pointwise

/-- The logits of batch element `b`'s first 150 voxels. -/
def logits (x : Vec Ideal S2x128x48x48x48 .f32) (b : Fin 2) (r k : Fin 150) : EReal :=
  (∑ d : Fin 128, x (ix5 b d ⟨r.val / 2304, by omega⟩ ⟨r.val / 48 % 48, by omega⟩ ⟨r.val % 48, by omega⟩)
      * x (ix5 b d ⟨k.val / 2304, by omega⟩ ⟨k.val / 48 % 48, by omega⟩ ⟨k.val % 48, by omega⟩))
    * ((134217728 / 9395241 : ℝ) : EReal)

/-- The kernel's result, from its feature argument. -/
def result (x : Vec Ideal S2x128x48x48x48 .f32) : EReal :=
  total (logits x 0) * ((-1 / 300 : ℝ) : EReal) + total (logits x 1) * ((-1 / 300 : ℝ) : EReal)

/-- The body's result on rows that are the features of the first voxels. -/
theorem out_eq (x : Vec Ideal S2x160x128 .f32) (y : Vec Ideal S2x128x48x48x48 .f32)
    (h : ∀ (b : Fin 2) (j : Fin 160) (d : Fin 128), x (ix3 b j d)
      = y (ix5 b d ⟨j.val / 2304, by omega⟩ ⟨j.val / 48 % 48, by omega⟩ ⟨j.val % 48, by omega⟩)) :
    out0_1 x (ix2 0 0) = result y := by
  rw [KernelLoss.out_apply]
  simp only [h]
  rfl

/-- The result read at the features the kernel is launched with. -/
theorem value_eq (c : Dev nD) :
    Pipeline.afterTail₀ cfgs (dats m) 0 (V0 m) [hostOps1] c main_v4 ix0 = result (m ((c : Thread nD τ).loc main_arg0)) := by
  exact (result_eq m c).trans ((array_eq m c).trans
    (out_eq _ _ fun b j d => (block_eq m c b j d).trans (rows_eq m c b j d)))

/-- The kernel runs, ends with `result` of its features and leaves its arguments unchanged. -/
theorem run : θ_run defs (onTc (τ := τ) (main (F := Ideal))) ⟨m, fun _ => 0, ρ⟩ fun r => ∀ c : Dev nD,
      r.2.mem ((c.tc : Thread nD τ).loc main_v4) = (fun _ => result (m ((c.tc : Thread nD τ).loc main_arg0)) : Vec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have hv : ∀ c, Pipeline.afterTail₀ cfgs (dats m) 0 (V0 m) [hostOps1] c main_v4
      = (fun _ => result (m ((c : Thread nD τ).loc main_arg0)) : Vec Ideal S_ .f32) := fun c => by
    funext i
    obtain rfl : i = ix0 := funext fun a => a.elim0
    exact value_eq m c
  refine θ_run_mono (θ_run_and (run_main m ρ) (unchanged m ρ)) fun r h c => ⟨?_, h.2 c⟩
  have e := (h.1 c).2 main_v4 (Pipeline.mem_restRefs_of main_v4 (by decide) (by decide))
  exact e.trans (hv c)

end Cert.KernelRun

end
-- ==== Proof.RefTerm.lean ====
/- The reference's result, named piece by piece. For one batch element with features `ff` (a row per voxel) and labels
   `fl`: `order` is the first 50 voxels of one class, `rows` their feature rows, `anchors` the 150 anchor rows, `logits`
   and what follows it the loss of the anchors; `meanOf` is the mean of the two losses. The result the reference ends
   with is `meanOf` of the two batch elements' losses, both read by one chain of definitions. -/
module

public import proofs.«01_k».proof.Proof.Gen.ReferenceIdeal.Run
public import Idealize.ShloMosaic.PureOps.Ideal

@[expose] public section

noncomputable section

namespace Cert.RefTerm

open Cert.ReferenceIdeal Cert.ReferenceIdeal.Gen Cert.ReferenceIdeal.Value Idealize.ShloMosaic Idealize.SL.Sem
open Idealize.ShloMosaic.StableHlo

/-- The sort keys of class `c`: 0 at its voxels, 1 elsewhere. -/
def keys (fl : IVec S110592 32) (c : BitVec 32) : IVec S110592 32 :=
  select (cmpi .eq fl (broadcastInDim S110592 ![] bcast_S_S110592 (constantI S_ 32 c)))
    (broadcastInDim S110592 ![] bcast_S_S110592 (constantI S_ 32 0#32))
    (broadcastInDim S110592 ![] bcast_S_S110592 (constantI S_ 32 1#32))

/-- The first 50 entries of the stable argsort of class `c`'s keys. -/
def order (fl : IVec S110592 32) (c : BitVec 32) : IVec S50 32 :=
  extractStridedSlice S50 ![0] ((Host.sort2 S110592 0 comparator_i32_i32_d0 (keys fl c) (iotaInDim S110592 32 0)).2)
    slices_S110592_S50_0

/-- The positions as a gather takes them: a negative one counts from the end. -/
def wrapped (o : IVec S50 32) : IVec S50 32 :=
  select (cmpi .slt o (broadcastInDim S50 ![] bcast_S_S50 (constantI S_ 32 0#32)))
    (addi o (broadcastInDim S50 ![] bcast_S_S50 (constantI S_ 32 110592#32))) o

/-- The feature rows at 50 positions. -/
def rows (ff : FVec Ideal S110592x128 .f32) (o : IVec S50 32) : FVec Ideal S50x128 .f32 :=
  Host.gather gather_S110592x128_S50x1_S50x128_1_0_n_n_0_1_1128 ff (broadcastInDim S50x1 ![0] bcast_S50_S50x1_0 (wrapped o))

/-- The 150 anchor rows: view `v` of class `c` is row `3 v + c`. -/
def anchors (ff : FVec Ideal S110592x128 .f32) (fl : IVec S110592 32) : FVec Ideal S150x128 .f32 :=
  shapeCast _ (transpose S50x3x128 [1, 0, 2]
    (fn_main_v46 (F := Ideal) (broadcastInDim S1x50x128 ![1, 2] bcast_S50x128_S1x50x128_1_2 (rows ff (order fl 0#32)))
      (broadcastInDim S1x50x128 ![1, 2] bcast_S50x128_S1x50x128_1_2 (rows ff (order fl 1#32)))
      (broadcastInDim S1x50x128 ![1, 2] bcast_S50x128_S1x50x128_1_2 (rows ff (order fl 2#32))))
    transposes_S3x50x128_S50x3x128_1_0_2) shapeCasts_S50x3x128_S150x128

/-- The anchors' classes, `0, 1, 2, 0, 1, 2, …`. -/
def classes : IVec S150 32 :=
  shapeCast _ (broadcastInDim S50x3 ![0, 1] bcast_S1x3_S50x3_0_1 (shapeCast _ (iotaInDim S3 32 0) shapeCasts_S3_S1x3))
    shapeCasts_S50x3_S150

/-- A value per row, spread along the row. -/
def spread (x : FVec Ideal S150 .f32) : FVec Ideal S150x150 .f32 :=
  broadcastInDim S150x150 ![0, 1] bcast_S150x1_S150x150_0_1 (broadcastInDim S150x1 ![0] bcast_S150_S150x1_0 x)

/-- The sum along each row. -/
def rowSum (x : FVec Ideal S150x150 .f32) : FVec Ideal S150 .f32 :=
  Host.reduceAdd x (constant S_ .f32 0x00000000#32) reducesTo_S150x150_S150_d1 h_S_

/-- One everywhere. -/
def ones : FVec Ideal S150x150 .f32 := broadcastInDim S150x150 ![] bcast_S_S150x150 (constant S_ .f32 0x3F800000#32)

/-- The anchors' inner products over the temperature. -/
def logits (a : FVec Ideal S150x128 .f32) : FVec Ideal S150x150 .f32 :=
  Host.divf (Host.dotGeneral dot_S150x128_S128x150_S150x150_1_0_0_1_n_n none a
      (transpose S128x150 [1, 0] a transposes_S150x128_S128x150_1_0))
    (broadcastInDim S150x150 ![] bcast_S_S150x150 (constant S_ .f32 0x3D8F5C29#32))

/-- The logits less their row's maximum. -/
def shifted (l : FVec Ideal S150x150 .f32) : FVec Ideal S150x150 .f32 :=
  subf l (spread (Host.reduce FloatOps.maximumf l (constant S_ .f32 0xFF800000#32) reducesTo_S150x150_S150_d1 h_S_))

/-- One where two anchors have one class. -/
def same : FVec Ideal S150x150 .f32 :=
  uitofp .f32 (cmpi .eq (broadcastInDim S150x150 ![0, 1] bcast_S150x1_S150x150_0_1 (broadcastInDim S150x1 ![0] bcast_S150_S150x1_0 classes))
    (broadcastInDim S150x150 ![0, 1] bcast_S1x150_S150x150_0_1 (broadcastInDim S1x150 ![1] bcast_S150_S1x150_1 classes)))

/-- One where two different anchors have one class. -/
def positive : FVec Ideal S150x150 .f32 :=
  mulf same (subf ones (uitofp .f32 (cmpi .eq (addi (iotaInDim S150x150 32 0)
    (broadcastInDim S150x150 ![] bcast_S_S150x150 (constantI S_ 32 0#32))) (iotaInDim S150x150 32 1))))

/-- Each anchor's mean log probability of its positives, from the shifted logits. -/
def perAnchor (s : FVec Ideal S150x150 .f32) : FVec Ideal S150 .f32 :=
  Host.divf (rowSum (mulf positive (subf s (Host.log (addf (Host.exp s)
    (spread (rowSum (mulf (Host.exp s) (subf ones same)))))))))
    (rowSum positive)

/-- The loss of 150 anchor rows. -/
def loss (a : FVec Ideal S150x128 .f32) : FVec Ideal S_ .f32 :=
  mulf (constant S_ .f32 0xBF800000#32)
    (Host.divf (Host.reduceAdd (perAnchor (shifted (logits a))) (constant S_ .f32 0x00000000#32) reducesTo_S150_S_d0 h_S_)
      (constant S_ .f32 0x43160000#32))

/-- The mean of two scalars. -/
def meanOf (x y : FVec Ideal S_ .f32) : FVec Ideal S_ .f32 :=
  Host.divf (Host.reduceAdd (fn_main_v188 (F := Ideal) (broadcastInDim S1 ![] bcast_S_S1 x) (broadcastInDim S1 ![] bcast_S_S1 y))
    (constant S_ .f32 0x00000000#32) reducesTo_S2_S_d0 h_S_) (constant S_ .f32 0x40000000#32)

/-- Batch element 0's features, a row per voxel. -/
def feats0 (x : FVec Ideal S2x128x48x48x48 .f32) : FVec Ideal S110592x128 .f32 :=
  transpose S110592x128 [1, 0] (shapeCast _ (shapeCast _ (extractStridedSlice S1x128x48x48x48 ![0, 0, 0, 0, 0] x
    slices_S2x128x48x48x48_S1x128x48x48x48_0_0_0_0_0) shapeCasts_S1x128x48x48x48_S128x48x48x48)
    shapeCasts_S128x48x48x48_S128x110592) transposes_S128x110592_S110592x128_1_0

/-- Batch element 1's features, a row per voxel. -/
def feats1 (x : FVec Ideal S2x128x48x48x48 .f32) : FVec Ideal S110592x128 .f32 :=
  transpose S110592x128 [1, 0] (shapeCast _ (shapeCast _ (extractStridedSlice S1x128x48x48x48 ![1, 0, 0, 0, 0] x
    slices_S2x128x48x48x48_S1x128x48x48x48_1_0_0_0_0) shapeCasts_S1x128x48x48x48_S128x48x48x48)
    shapeCasts_S128x48x48x48_S128x110592) transposes_S128x110592_S110592x128_1_0

/-- Batch element 0's labels, one per voxel. -/
def labels0 (y : IVec S2x1x48x48x48 32) : IVec S110592 32 :=
  shapeCast _ (shapeCast _ (extractStridedSlice S1x1x48x48x48 ![0, 0, 0, 0, 0] y
    slices_S2x1x48x48x48_S1x1x48x48x48_0_0_0_0_0) shapeCasts_S1x1x48x48x48_S1x48x48x48) shapeCasts_S1x48x48x48_S110592

/-- Batch element 1's labels, one per voxel. -/
def labels1 (y : IVec S2x1x48x48x48 32) : IVec S110592 32 :=
  shapeCast _ (shapeCast _ (extractStridedSlice S1x1x48x48x48 ![1, 0, 0, 0, 0] y
    slices_S2x1x48x48x48_S1x1x48x48x48_1_0_0_0_0) shapeCasts_S1x1x48x48x48_S1x48x48x48) shapeCasts_S1x48x48x48_S110592

/-- The reference's result, from its two arguments. -/
def result (x : FVec Ideal S2x128x48x48x48 .f32) (y : IVec S2x1x48x48x48 32) : FVec Ideal S_ .f32 :=
  meanOf (loss (anchors (feats0 x) (labels0 y))) (loss (anchors (feats1 x) (labels1 y)))

section Batches

variable (V : Valuation τ sig (Elt Ideal))

/-- The anchors the reference forms from batch element 0. -/
theorem anchors0 : res_main_v48 V = anchors (feats0 (V (Proc.devRef .tc main_arg0))) (labels0 (V (Proc.devRef .tc main_arg1))) := rfl

/-- The anchors the reference forms from batch element 1. -/
theorem anchors1 : res_main_v141 V = anchors (feats1 (V (Proc.devRef .tc main_arg0))) (labels1 (V (Proc.devRef .tc main_arg1))) := rfl

/-- The shifted logits of batch element 0. -/
theorem shifted0 : res_main_v60 V = shifted (logits (res_main_v48 V)) := rfl

/-- The shifted logits of batch element 1. -/
theorem shifted1 : res_main_v153 V = shifted (logits (res_main_v141 V)) := rfl

/-- The masks of the two batch elements do not read the arguments. -/
theorem masks : res_main_v66 V = same ∧ res_main_v159 V = same ∧ res_main_v77 V = positive ∧ res_main_v170 V = positive :=
  ⟨rfl, rfl, rfl, rfl⟩

end Batches

/-- The reference runs, ends with `result` of its arguments and leaves its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v190)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  obtain ⟨h66, h159, h77, h170⟩ := masks (launchContents m c)
  rw [h66, h159, h77, h170, show res_main_v78 (launchContents m c) = Host.exp (res_main_v60 (launchContents m c)) from rfl,
    show res_main_v171 (launchContents m c) = Host.exp (res_main_v153 (launchContents m c)) from rfl,
    shifted0, shifted1, anchors0, anchors1]
  rfl

end Cert.RefTerm

end
-- ==== Proof.RefLoss.lean ====
/- The reference's loss of 150 anchor rows, read as the formula of the loss on extended reals. -/
module

public import proofs.«01_k».proof.Proof.RefTerm
public import proofs.«01_k».proof.Proof.LossMath
public import proofs.«01_k».proof.Proof.Consts
public import Idealize.ShloMosaic.Lib.Pointwise
public import Idealize.ShloMosaic.Lib.WordCmp

@[expose] public section

noncomputable section

namespace Cert.RefLoss

open Cert.ReferenceIdeal Cert.ReferenceIdeal.Gen Cert.RefTerm Cert.LossMath Idealize.ShloMosaic Idealize.ShloMosaic.WordCmp

/-- The bit of a decision, as a float. -/
theorem bit_eq (p : Prop) [Decidable p] :
    (FloatOps.uitofp (F := Ideal) .f32 (BitVec.ofBool (decide p)) : EReal) = if p then 1 else 0 := by
  by_cases h : p <;> simp [h, FloatOps.uitofp]

/-- The class of an anchor. -/
theorem classes_apply (r : Fin 150) : classes (ix1 r) = BitVec.ofNat 32 (r.val % 3) := by
  pointwise [classes]

/-- One where two anchors have one class. -/
theorem same_apply (r k : Fin 150) : same (ix2 r k) = if r.val % 3 = k.val % 3 then 1 else 0 := by
  pointwise [same]
  rw [classes_apply, classes_apply, cmpi_eq_ofNat (by omega) (by omega), bit_eq]

/-- One where two different anchors have one class. -/
theorem positive_apply (r k : Fin 150) :
    positive (ix2 r k) = if r.val % 3 = k.val % 3 ∧ r.val ≠ k.val then 1 else 0 := by
  pointwise [positive, ones]
  rw [same_apply, show IntOp.addi (BitVec.ofNat 32 r.val) 0#32 = BitVec.ofNat 32 r.val from BitVec.add_zero _,
    cmpi_eq_ofNat (by omega) (by omega), bit_eq]
  have h0 : (1 : EReal) - 1 = 0 := EReal.sub_self (by decide) (by decide)
  by_cases h : r.val % 3 = k.val % 3 <;> by_cases e : r.val = k.val <;> simp [h, e, h0]

/-- The shifted logits. -/
theorem shifted_apply (l : FVec Ideal S150x150 .f32) (r k : Fin 150) :
    shifted l (ix2 r k) = l (ix2 r k) - rowMax fun x => l (ix2 r x) := by
  pointwise [shifted, spread]
  rw [Consts.negInf]
  rfl

/-- Each anchor's mean. -/
theorem perAnchor_apply (l : FVec Ideal S150x150 .f32) (r : Fin 150) :
    perAnchor (shifted l) (ix1 r) = anchorMean (fun k => l (ix2 r k)) r := by
  have h0 : (1 : EReal) - 1 = 0 := EReal.sub_self (by decide) (by decide)
  pointwise [perAnchor, rowSum, spread, ones]
  simp only [positive_apply, same_apply, shifted_apply, ite_mul, one_mul, zero_mul]
  have hn : (∑ k : Fin 150, Ideal.exp (l (ix2 r k) - rowMax fun x => l (ix2 r x)) * (1 - if r.val % 3 = k.val % 3 then 1 else 0))
      = negSum (fun k => l (ix2 r k)) r := by
    refine Finset.sum_congr rfl fun k _ => ?_
    by_cases h : r.val % 3 = k.val % 3 <;> simp [h, h0]
  rw [hn]
  rfl

/-- The loss of the anchors: minus the mean of the anchors' means. -/
theorem loss_apply (a : FVec Ideal S150x128 .f32) :
    loss a ix0 = ((-1 : ℝ) : EReal) * Ideal.div
      (total fun r k => (∑ d : Fin 128, a (ix2 r d) * a (ix2 k d)) * ((134217728 / 9395241 : ℝ) : EReal)) ((150 : ℝ) : EReal) := by
  have hl : ∀ r k : Fin 150, logits a (ix2 r k)
      = (∑ d : Fin 128, a (ix2 r d) * a (ix2 k d)) * ((134217728 / 9395241 : ℝ) : EReal) := by
    intro r k
    pointwise [logits]
    rw [Consts.temperature, Ideal.div_coe (by norm_num)]
    congr 2
    norm_num
  pointwise [loss]
  rw [Consts.minus_one, Consts.anchors]
  simp only [perAnchor_apply, hl]
  rfl

/-- The mean of the two losses. -/
theorem meanOf_apply (x y : FVec Ideal S_ .f32) : meanOf x y ix0 = Ideal.div (x ix0 + y ix0) ((2 : ℝ) : EReal) := by
  pointwise [meanOf, Value.fn_main_v188]
  rw [Consts.batch]
  simp

end Cert.RefLoss

end
-- ==== Proof.SortFirst.lean ====
/- The first entries of a stable argsort by a two-valued key. A stable sort by such a key is the list of the elements
   with the low key followed by the list of the others, each in its old order. When the low key sits at positions
   `c, c + 3, c + 6, …` of the first 150 positions, the first 50 entries of the argsort are those positions, whatever the
   later keys are. -/
module

public import Idealize.ShloMosaic.Lib.SortFacts
public import Idealize.ShloMosaic.Lib.ValueIdx
public import Mathlib.Data.List.FinRange

@[expose] public section

namespace Cert.SortFirst

open Idealize.ShloMosaic

section TwoKeys

variable {ι : Type} (p : ι → Bool)

/-- The order of a two-valued key: an element with the low key is before one without it. -/
def low (b a : ι) : Bool := p b && !p a

/-- An element with the low key is inserted at the front: nothing is before it. -/
theorem insert_low (a : ι) (ha : p a = true) (l : List ι) : insertBefore (low p) a l = a :: l := by
  cases l <;> simp [insertBefore, low, ha]

/-- An element with the high key is inserted after the low ones and before the high ones. -/
theorem insert_high (a : ι) (ha : p a = false) (Z O : List ι) (hZ : ∀ b ∈ Z, p b = true) (hO : ∀ b ∈ O, p b = false) :
    insertBefore (low p) a (Z ++ O) = Z ++ a :: O := by
  induction Z with
  | nil =>
    cases O with
    | nil => rfl
    | cons b O => simp [insertBefore, low, hO b (List.mem_cons_self ..)]
  | cons b Z ih =>
    have hb : low p b a = true := by simp [low, ha, hZ b (List.mem_cons_self ..)]
    simp only [List.cons_append, insertBefore, hb, if_true]
    rw [ih fun x hx => hZ x (List.mem_cons_of_mem _ hx)]

/-- The stable sort by a two-valued key: the low elements in their order, then the others in theirs. -/
theorem stableSort_low (l : List ι) : stableSort (low p) l = l.filter p ++ l.filter fun a => !p a := by
  induction l with
  | nil => rfl
  | cons a l ih =>
    unfold stableSort
    rw [ih]
    cases ha : p a
    · rw [insert_high p a ha _ _ (fun b hb => (List.mem_filter.mp hb).2)
        (fun b hb => by simpa using (List.mem_filter.mp hb).2)]
      simp [ha]
    · rw [insert_low p a ha]
      simp [ha]

end TwoKeys

/-- The multiples of three plus `c` among the first 150 naturals. -/
theorem range_filter (c : Nat) (hc : c < 3) :
    ((List.range 150).filter fun k => k % 3 == c) = (List.range 50).map fun v => 3 * v + c := by
  have : c = 0 ∨ c = 1 ∨ c = 2 := by omega
  rcases this with rfl | rfl | rfl <;> decide

/-- The low positions of `Fin n`, as naturals, begin with `c, 3 + c, 6 + c, …`. -/
theorem filter_finRange (d : Nat) (c : Nat) (hc : c < 3) (p : Fin (150 + d) → Bool)
    (hp : ∀ j : Fin (150 + d), j.val < 150 → p j = (j.val % 3 == c)) :
    ∃ r : List Nat, ((List.finRange (150 + d)).filter p).map Fin.val = ((List.range 50).map fun v => 3 * v + c) ++ r := by
  let q : Nat → Bool := fun k => if h : k < 150 + d then p ⟨k, h⟩ else false
  have hpq : p = q ∘ Fin.val := by funext j; simp [q]
  refine ⟨((List.range d).map (150 + ·)).filter q, ?_⟩
  rw [hpq, ← List.filter_map, List.map_coe_finRange_eq_range, List.range_add, List.filter_append, ← range_filter c hc]
  congr 1
  refine List.filter_congr fun k hk => ?_
  have hk' : k < 150 := List.mem_range.mp hk
  have : q k = p ⟨k, by omega⟩ := by simp only [q]; rw [dif_pos]
  rw [this, hp _ hk']

/-- The first 50 entries of the stable sorting permutation. -/
theorem sortedFrom_low (d : Nat) (c : Nat) (hc : c < 3) (p : Fin (150 + d) → Bool)
    (hp : ∀ j : Fin (150 + d), j.val < 150 → p j = (j.val % 3 == c)) (v : Nat) (hv : v < 50) :
    (sortedFrom (low p) (⟨v, by omega⟩ : Fin (150 + d))).val = 3 * v + c := by
  obtain ⟨r, hr⟩ := filter_finRange d c hc p hp
  have hs : (sortPositions (150 + d) (low p)).map Fin.val
      = ((List.range 50).map fun v => 3 * v + c) ++ (r ++ ((List.finRange (150 + d)).filter fun a => !p a).map Fin.val) := by
    rw [sortPositions, stableSort_low, List.map_append, hr, List.append_assoc]
  have hg : ((sortPositions (150 + d) (low p)).map Fin.val)[v]? = some (3 * v + c) := by
    rw [hs, List.getElem?_append_left (by simpa using hv)]
    simp [hv]
  rw [List.getElem?_map] at hg
  obtain ⟨x, hx, hxv⟩ := Option.map_eq_some_iff.mp hg
  obtain ⟨hlt, hx⟩ := List.getElem?_eq_some_iff.mp hx
  unfold sortedFrom
  rw [List.get_eq_getElem]
  simp only [Fin.val_cast]
  rw [hx, hxv]

/-- The second result of a stable two-operand sort along the only axis, at an index whose coordinate is below 50, when the
    comparator is the order of a two-valued key that is low at `c, c + 3, …` among the first 150. -/
theorem sort2_snd {α β : Type} (d : Nat) (c : Nat) (hc : c < 3) (cmp : α × β → α × β → BitVec 1)
    (x : (⟨1, ![150 + d]⟩ : Shape).Idx → α) (y : (⟨1, ![150 + d]⟩ : Shape).Idx → β) (p : Fin (150 + d) → Bool)
    (hcmp : ∀ k k' : Fin (150 + d), (cmp (x (ValueIdx.ix1 k), y (ValueIdx.ix1 k)) (x (ValueIdx.ix1 k'), y (ValueIdx.ix1 k')) == 1#1) = low p k k')
    (hp : ∀ j : Fin (150 + d), j.val < 150 → p j = (j.val % 3 == c)) (v : Nat) (hv : v < 50) :
    (Host.sort2 ⟨1, ![150 + d]⟩ 0 cmp x y).2 (ValueIdx.ix1 ⟨v, by omega⟩) = y (ValueIdx.ix1 ⟨3 * v + c, by omega⟩) := by
  have hal : ∀ (j : (⟨1, ![150 + d]⟩ : Shape).Idx) (k : Fin (150 + d)), j.along (0 : Fin 1) k = ValueIdx.ix1 k := by
    intro j k
    rw [Shape.Idx.along_rank1]
    funext a
    have : a = 0 := Subsingleton.elim _ _
    subst this
    rfl
  unfold Host.sort2
  rw [dif_pos (show 0 < (⟨1, ![150 + d]⟩ : Shape).rank from Nat.one_pos)]
  show y (Shape.Idx.along _ (0 : Fin 1) (sortedFrom (n := 150 + d) _ (⟨v, _⟩ : Fin (150 + d)))) = _
  rw [hal]
  congr 2
  refine Fin.ext ?_
  refine Eq.trans ?_ (sortedFrom_low d c hc p hp v hv)
  congr 2
  funext k k'
  refine Eq.trans ?_ (hcmp k k')
  erw [hal, hal]

end Cert.SortFirst
-- ==== Proof.RefAnchors.lean ====
/- The reference's anchor rows when the first 150 labels of a batch element are 0, 1, 2, 0, 1, 2, …: view `v` of class `c`
   is voxel `3 v + c`, so anchor row `j` is the feature row of voxel `j`, whatever the later labels are. -/
module

public import proofs.«01_k».proof.Proof.RefTerm
public import proofs.«01_k».proof.Proof.SortFirst
public import Idealize.ShloMosaic.Lib.Pointwise
public import Idealize.ShloMosaic.Lib.WordCmp

@[expose] public section

noncomputable section

namespace Cert.RefAnchors

open Cert.ReferenceIdeal Cert.ReferenceIdeal.Gen Cert.RefTerm Idealize.ShloMosaic Idealize.ShloMosaic.WordCmp

/-- The key of a voxel: zero exactly when its label is the class. -/
theorem keys_apply (fl : IVec S110592 32) (c : BitVec 32) (j : Fin 110592) :
    keys fl c (ix1 j) = if fl (ix1 j) = c then 0#32 else 1#32 := by
  pointwise [keys]
  rw [cmpi_eq_eq, select_ofBool]
  simp

/-- Entry `v` of class `c`'s order is voxel `3 v + c`. -/
theorem order_apply (fl : IVec S110592 32) (hfl : ∀ j : Fin 110592, j.val < 150 → fl (ix1 j) = BitVec.ofNat 32 (j.val % 3))
    (c : Nat) (hc : c < 3) (v : Fin 50) : order fl (BitVec.ofNat 32 c) (ix1 v) = BitVec.ofNat 32 (3 * v.val + c) := by
  pointwise [order]
  have h := SortFirst.sort2_snd 110442 c hc comparator_i32_i32_d0 (keys fl (BitVec.ofNat 32 c)) (iotaInDim S110592 32 0)
    (fun j => decide (fl (ix1 j) = BitVec.ofNat 32 c)) (fun k k' => ?_) (fun j hj => ?_) v.val v.isLt
  · exact h
  · show (IntOp.cmpi .slt (keys fl _ (ix1 k)) (keys fl _ (ix1 k')) == 1#1) = _
    rw [keys_apply, keys_apply]
    by_cases e : fl (ix1 k) = BitVec.ofNat 32 c <;> by_cases e' : fl (ix1 k') = BitVec.ofNat 32 c <;>
      simp [SortFirst.low, e, e'] <;> decide
  · rw [hfl j hj]
    rw [Bool.eq_iff_iff, decide_eq_true_iff, beq_iff_eq]
    refine ⟨fun e => ?_, fun e => by rw [e]⟩
    have := congrArg BitVec.toNat e
    rw [BitVec.toNat_ofNat, BitVec.toNat_ofNat] at this
    omega

/-- The gather at one position per row takes the row at that position, clamped into the operand. -/
theorem gather_row (ff : FVec Ideal S110592x128 .f32) (p : IVec S50x1 32) (v : Fin 50) (d : Fin 128) :
    Host.gather gather_S110592x128_S50x1_S50x128_1_0_n_n_0_1_1128 ff p (ix2 v d)
      = ff (ix2 ⟨min (p (ix2 v 0)).toInt.toNat 110591, by omega⟩ d) := by
  let G := gather_S110592x128_S50x1_S50x128_1_0_n_n_0_1_1128
  have e0 : G.start (ix2 v d) p 0 = min (p (ix2 v 0)).toInt.toNat 110591 := by
    unfold GatherDims.start
    rw [dif_pos (show (0 : Fin 2) ∈ G.startIndexMap from List.mem_singleton.mpr rfl)]
    have e : ∀ k, G.siIdx (ix2 v d) k = ix2 v 0 := fun k => by
      funext b
      match b with
      | ⟨0, _⟩ => rfl
      | ⟨1, _⟩ => exact Subsingleton.elim (α := Fin 1) _ _
    rw [e]
    rfl
  have e1 : G.start (ix2 v d) p 1 = 0 := by
    unfold GatherDims.start
    rw [dif_neg (show ¬ (1 : Fin 2) ∈ G.startIndexMap from fun h => absurd (List.mem_singleton.mp h) (by decide))]
  have o0 : G.offCoord (ix2 v d) 0 = 0 :=
    GatherDims.offCoord_eq_zero _ _ _ fun h => ((GatherDims.mem_sKept _ _).mp h).1 (List.mem_singleton.mpr rfl)
  have o1 : G.offCoord (ix2 v d) 1 = d.val := rfl
  have z : ∀ a, G.batchCoord (ix2 v d) a = 0 := fun a => GatherDims.batchCoord_eq_zero _ _ _ List.not_mem_nil
  refine congrArg ff (funext fun a => Fin.ext ?_)
  show G.start (ix2 v d) p a + G.batchCoord (ix2 v d) a + G.offCoord (ix2 v d) a = _
  rw [z]
  rcases (show a = (0 : Fin 2) ∨ a = (1 : Fin 2) by
    match a with
    | ⟨0, _⟩ => exact Or.inl rfl
    | ⟨1, _⟩ => exact Or.inr rfl) with rfl | rfl
  · rw [e0, o0]
    rfl
  · rw [e1, o1, Nat.zero_add]
    rfl

/-- A row of the gather at a position in range. -/
theorem rows_apply (ff : FVec Ideal S110592x128 .f32) (o : IVec S50 32) (v : Fin 50) (d : Fin 128) (n : Nat) (hn : n < 110592)
    (ho : o (ix1 v) = BitVec.ofNat 32 n) : rows ff o (ix2 v d) = ff (ix2 ⟨n, hn⟩ d) := by
  have hw : wrapped o (ix1 v) = BitVec.ofNat 32 n := by
    pointwise [wrapped]
    rw [ho, cmpi_slt_ofNat (by omega) (by omega), select_ofBool]
    simp
  have hp : broadcastInDim S50x1 ![0] bcast_S50_S50x1_0 (wrapped o) (ix2 v 0) = BitVec.ofNat 32 n := by
    pointwise []
    exact hw
  unfold rows
  rw [gather_row]
  refine congrArg (fun j => ff (ix2 j d)) (Fin.ext ?_)
  show min (BitVec.toInt _).toNat 110591 = n
  rw [hp, toInt_ofNat_of_lt (by omega)]
  omega

/-- Anchor row `j` is the feature row of voxel `j`. -/
theorem anchors_apply (ff : FVec Ideal S110592x128 .f32) (fl : IVec S110592 32)
    (hfl : ∀ j : Fin 110592, j.val < 150 → fl (ix1 j) = BitVec.ofNat 32 (j.val % 3)) (j : Fin 150) (d : Fin 128) :
    anchors ff fl (ix2 j d) = ff (ix2 ⟨j.val, by omega⟩ d) := by
  have h : ∀ c : Nat, c < 3 → j.val % 3 = c →
      rows ff (order fl (BitVec.ofNat 32 c)) (ix2 ⟨j.val / 3, by omega⟩ d) = ff (ix2 ⟨j.val, by omega⟩ d) := by
    intro c hc e
    refine rows_apply ff _ _ d j.val (by omega) ((order_apply fl hfl c hc _).trans ?_)
    congr 1
    show 3 * (j.val / 3) + c = j.val
    omega
  pointwise [anchors, Value.fn_main_v46]
  split
  · exact h 0 (by omega) (by omega)
  · split
    · exact h 1 (by omega) (by omega)
    · exact h 2 (by omega) (by omega)

end Cert.RefAnchors

end
-- ==== Proof.Voxels.lean ====
/- The precondition of the value claim, read at a voxel: the first 150 labels of each batch element are 0, 1, 2, 0, 1, 2, …. -/
module

public import proofs.«01_k».proof.Pre_first_voxels
public import Idealize.ShloMosaic.PureOps.Ideal
public import Idealize.ShloMosaic.Lib.Pointwise
public import Idealize.ShloMosaic.Lib.WordCmp
public import Idealize.ShloMosaic.Lib.ReduceAll

@[expose] public section

noncomputable section

namespace Cert.Voxels

open Cert.Pre_first_voxels Idealize.ShloMosaic Idealize.ShloMosaic.WordCmp

/-- The side conditions of the precondition's operations. -/
instance facts : Facts where
  shapeCasts_S2x1x48x48x48_S2x110592 := by decide
  slices_S2x110592_S2x150_0_0 := by decide
  bcast_S_S150 := by decide
  bcast_S150_S2x150_1 := by decide
  reducesTo_S2x150_S_d0_1 := by decide
  h_S_ := by decide

open Cert.Pre_first_voxels.Facts

/-- The remainder by three, as the precondition spells it. -/
theorem remainder_apply (j : Fin 150) :
    fn_remainder (F := Ideal) (iotaInDim S150 32 0) (constantI S_ 32 3#32) (ix1 j) = BitVec.ofNat 32 (j.val % 3) := by
  pointwise [fn_remainder, fn_where]
  revert j
  decide +kernel

/-- Where the precondition holds, the label of voxel `j < 150` of either batch element is `j % 3`. -/
theorem label_eq (x : FVec Ideal S2x128x48x48x48 .f32) (y : IVec S2x1x48x48x48 32) (h : fn x y = fun _ => 1#1)
    (b : Fin 2) (j : Fin 150) :
    y (ix5 b 0 ⟨j.val / 2304, by omega⟩ ⟨j.val / 48 % 48, by omega⟩ ⟨j.val % 48, by omega⟩) = BitVec.ofNat 32 (j.val % 3) := by
  haveI : Subsingleton S_.Idx := ⟨fun _ _ => funext fun a => a.elim0⟩
  have e := Host.reduce_andi_all _ _ _ _ _ (congrFun h ix0) (ix2 b j)
  pointwise at e
  rw [remainder_apply, cmpi_eq_eq, ofBool_decide_eq_one_iff] at e
  exact e

end Cert.Voxels

end
-- ==== Proof.Equal.lean ====
/- The two results are one value where the precondition holds: the reference's anchors are then the first 150 voxels'
   rows, so both losses are of the same logits, and the kernel's one factor is the reference's two means. -/
module

public import proofs.«01_k».proof.Proof.RefLoss
public import proofs.«01_k».proof.Proof.RefAnchors
public import proofs.«01_k».proof.Proof.Voxels
public import proofs.«01_k».proof.Proof.KernelRun

@[expose] public section

noncomputable section

namespace Cert.Equal

open Cert.ReferenceIdeal Cert.RefTerm Cert.LossMath Idealize.ShloMosaic

/-- The loss of one batch element, from its features and labels read at a voxel. -/
theorem loss_eq (x : FVec Ideal S2x128x48x48x48 .f32) (b : Fin 2) (ff : FVec Ideal S110592x128 .f32) (fl : IVec S110592 32)
    (hff : ∀ (j : Fin 110592) (d : Fin 128), ff (ix2 j d)
      = x (ix5 b d ⟨j.val / 2304, by omega⟩ ⟨j.val / 48 % 48, by omega⟩ ⟨j.val % 48, by omega⟩))
    (hfl : ∀ j : Fin 110592, j.val < 150 → fl (ix1 j) = BitVec.ofNat 32 (j.val % 3)) :
    loss (anchors ff fl) ix0
      = ((-1 : ℝ) : EReal) * Ideal.div (total (KernelRun.logits x b)) ((150 : ℝ) : EReal) := by
  rw [RefLoss.loss_apply]
  simp only [RefAnchors.anchors_apply ff fl hfl, hff]
  rfl

/-- The reference's result is the kernel's. -/
theorem result_eq (x : FVec Ideal S2x128x48x48x48 .f32) (y : IVec S2x1x48x48x48 32)
    (h : Cert.Pre_first_voxels.fn (F := Ideal) x y = fun _ => 1#1) :
    RefTerm.result x y = fun _ => KernelRun.result x := by
  funext i
  obtain rfl : i = ix0 := funext fun a => a.elim0
  unfold RefTerm.result KernelRun.result
  rw [RefLoss.meanOf_apply, mean_eq,
    loss_eq x 0 _ _ (fun j d => by pointwise [feats0]) fun j hj => (by pointwise [labels0] : labels0 y (ix1 j) = _).trans
      (Voxels.label_eq x y h 0 ⟨j.val, hj⟩),
    loss_eq x 1 _ _ (fun j d => by pointwise [feats1]) fun j hj => (by pointwise [labels1] : labels1 y (ix1 j) = _).trans
      (Voxels.label_eq x y h 1 ⟨j.val, hj⟩)]

end Cert.Equal

end
-- ==== Proof.lean ====
module

public import proofs.«01_k».proof.Defs
public import proofs.«01_k».proof.Proof.Gen.Kernel.Frame
public import proofs.«01_k».proof.Proof.KernelRun
public import proofs.«01_k».proof.Proof.RefTerm
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates with its arguments unchanged; it has no semaphore. -/
theorem frame_ri : Cert.quiescent_ReferenceIdeal := fun m ρ _ =>
  θ_run_mono (RefTerm.run m ρ) fun r h => ⟨fun c => (h c).2, sem_eq_zero_of_no_sems (by decide) r.2⟩

/-- The three named constants have the values their names are given. -/
theorem preserves : Cert.preserves_Kernel_KernelIdeal :=
  ⟨IdealRules.named_const.statement Cert.KernelIdeal.κ "inv_temp" .f32 0x41649249#32 ((134217728 / 9395241 : ℝ) : EReal) rfl,
    IdealRules.named_const.statement Cert.KernelIdeal.κ "mask" .f32 0xF149F2CA#32 ⊥ rfl,
    IdealRules.named_const.statement Cert.KernelIdeal.κ "mean_coeff" .f32 0xBB5A740E#32 ((-1 / 300 : ℝ) : EReal) rfl⟩

/-- The kernel and the reference end with one result. -/
theorem algebraic : Cert.algebraic_KernelIdeal_ReferenceIdeal_pre_first_voxels := by
  intro m ρ m' ρ' hpre hagree
  refine ⟨_, KernelRun.run m ρ, θ_run_mono (RefTerm.run m' ρ') fun r h c => ⟨(h c).1.trans ?_, (h c).2⟩⟩
  rw [(hagree c).1, (hagree c).2]
  exact Equal.result_eq _ _ (hpre c)

theorem claim : Cert.Claim :=
  ⟨Cert.Kernel.Gen.facts, Cert.KernelIdeal.Gen.facts, Cert.ReferenceIdeal.Gen.facts, Voxels.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial, preserves, algebraic⟩

end Cert.Proof

end
